-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_affine [hPre_unit_affine : Cert.Pre_unit_affine.Facts] (m : (ℓ : Loc Cert.KernelIdeal.nD Cert.KernelIdeal.τ Cert.KernelIdeal.sig) → Buf (Elt Ideal) ℓ) : Prop :=
  ∀ c : Dev Cert.KernelIdeal.nD,
    (Cert.Pre_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_Affine (m : (ℓ : Loc Cert.Affine.nD Cert.Affine.τ Cert.Affine.sig) → Buf (Elt Bits) ℓ) : Prop :=
  True

def Pre_AffineIdeal (m : (ℓ : Loc Cert.AffineIdeal.nD Cert.AffineIdeal.τ Cert.AffineIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_unit_affine [hPre_unit_affine : Cert.Pre_unit_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_unit_affine [hKernelIdeal : Cert.KernelIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Affine [hAffine : Cert.Affine.Facts] : Prop :=
  ∀ (m : (ℓ : Loc Cert.Affine.nD Cert.Affine.τ Cert.Affine.sig) → Buf (Elt Bits) ℓ) (g : Dev Cert.Affine.nD → PrngReg), Pre_Affine m →
    θ_run (Cert.Affine.defs (F := Bits)) (onTc (τ := Cert.Affine.τ) (Cert.Affine.main (F := Bits))) ⟨m, fun _ => 0, g⟩ (fun r => (∀ c : Dev Cert.Affine.nD,
      r.2.mem ((c.tc : Thread Cert.Affine.nD Cert.Affine.τ).loc Cert.Affine.main_arg0) = m ((c.tc : Thread Cert.Affine.nD Cert.Affine.τ).loc Cert.Affine.main_arg0)
      ∧ r.2.mem ((c.tc : Thread Cert.Affine.nD Cert.Affine.τ).loc Cert.Affine.main_arg1) = m ((c.tc : Thread Cert.Affine.nD Cert.Affine.τ).loc Cert.Affine.main_arg1)
      ∧ r.2.mem ((c.tc : Thread Cert.Affine.nD Cert.Affine.τ).loc Cert.Affine.main_arg2) = m ((c.tc : Thread Cert.Affine.nD Cert.Affine.τ).loc Cert.Affine.main_arg2)
      ∧ r.2.mem ((c.tc : Thread Cert.Affine.nD Cert.Affine.τ).loc Cert.Affine.main_arg3) = m ((c.tc : Thread Cert.Affine.nD Cert.Affine.τ).loc Cert.Affine.main_arg3)
      ∧ r.2.mem ((c.tc : Thread Cert.Affine.nD Cert.Affine.τ).loc Cert.Affine.main_arg4) = m ((c.tc : Thread Cert.Affine.nD Cert.Affine.τ).loc Cert.Affine.main_arg4))
      ∧ r.2.sem = fun _ => 0)

def quiescent_AffineIdeal [hAffineIdeal : Cert.AffineIdeal.Facts] : Prop :=
  ∀ (m : (ℓ : Loc Cert.AffineIdeal.nD Cert.AffineIdeal.τ Cert.AffineIdeal.sig) → Buf (Elt Ideal) ℓ) (g : Dev Cert.AffineIdeal.nD → PrngReg), Pre_AffineIdeal m →
    θ_run (Cert.AffineIdeal.defs (F := Ideal)) (onTc (τ := Cert.AffineIdeal.τ) (Cert.AffineIdeal.main (F := Ideal))) ⟨m, fun _ => 0, g⟩ (fun r => (∀ c : Dev Cert.AffineIdeal.nD,
      r.2.mem ((c.tc : Thread Cert.AffineIdeal.nD Cert.AffineIdeal.τ).loc Cert.AffineIdeal.main_arg0) = m ((c.tc : Thread Cert.AffineIdeal.nD Cert.AffineIdeal.τ).loc Cert.AffineIdeal.main_arg0)
      ∧ r.2.mem ((c.tc : Thread Cert.AffineIdeal.nD Cert.AffineIdeal.τ).loc Cert.AffineIdeal.main_arg1) = m ((c.tc : Thread Cert.AffineIdeal.nD Cert.AffineIdeal.τ).loc Cert.AffineIdeal.main_arg1)
      ∧ r.2.mem ((c.tc : Thread Cert.AffineIdeal.nD Cert.AffineIdeal.τ).loc Cert.AffineIdeal.main_arg2) = m ((c.tc : Thread Cert.AffineIdeal.nD Cert.AffineIdeal.τ).loc Cert.AffineIdeal.main_arg2)
      ∧ r.2.mem ((c.tc : Thread Cert.AffineIdeal.nD Cert.AffineIdeal.τ).loc Cert.AffineIdeal.main_arg3) = m ((c.tc : Thread Cert.AffineIdeal.nD Cert.AffineIdeal.τ).loc Cert.AffineIdeal.main_arg3)
      ∧ r.2.mem ((c.tc : Thread Cert.AffineIdeal.nD Cert.AffineIdeal.τ).loc Cert.AffineIdeal.main_arg4) = m ((c.tc : Thread Cert.AffineIdeal.nD Cert.AffineIdeal.τ).loc Cert.AffineIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_unit_affine [hReferenceIdeal : Cert.ReferenceIdeal.Facts] [hPre_unit_affine : Cert.Pre_unit_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def preserves_Affine_AffineIdeal : Prop :=
  True

def algebraic_KernelIdeal_ReferenceIdeal_pre_unit_affine [hKernelIdeal : Cert.KernelIdeal.Facts] [hReferenceIdeal : Cert.ReferenceIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_AffineIdeal_ReferenceIdeal [hAffineIdeal : Cert.AffineIdeal.Facts] [hReferenceIdeal : Cert.ReferenceIdeal.Facts] : Prop :=
  ∀ (m : (ℓ : Loc Cert.AffineIdeal.nD Cert.AffineIdeal.τ Cert.AffineIdeal.sig) → Buf (Elt Ideal) ℓ) (g : Dev Cert.AffineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AffineIdeal m →
    (∀ c : Dev Cert.AffineIdeal.nD,
      m' ((c.tc : Thread Cert.ReferenceIdeal.nD Cert.ReferenceIdeal.τ).loc Cert.ReferenceIdeal.main_arg0) = m ((c.tc : Thread Cert.AffineIdeal.nD Cert.AffineIdeal.τ).loc Cert.AffineIdeal.main_arg0)
      ∧ m' ((c.tc : Thread Cert.ReferenceIdeal.nD Cert.ReferenceIdeal.τ).loc Cert.ReferenceIdeal.main_arg1) = m ((c.tc : Thread Cert.AffineIdeal.nD Cert.AffineIdeal.τ).loc Cert.AffineIdeal.main_arg1)
      ∧ m' ((c.tc : Thread Cert.ReferenceIdeal.nD Cert.ReferenceIdeal.τ).loc Cert.ReferenceIdeal.main_arg2) = m ((c.tc : Thread Cert.AffineIdeal.nD Cert.AffineIdeal.τ).loc Cert.AffineIdeal.main_arg2)
      ∧ m' ((c.tc : Thread Cert.ReferenceIdeal.nD Cert.ReferenceIdeal.τ).loc Cert.ReferenceIdeal.main_arg3) = m ((c.tc : Thread Cert.AffineIdeal.nD Cert.AffineIdeal.τ).loc Cert.AffineIdeal.main_arg3)
      ∧ m' ((c.tc : Thread Cert.ReferenceIdeal.nD Cert.ReferenceIdeal.τ).loc Cert.ReferenceIdeal.main_arg4) = m ((c.tc : Thread Cert.AffineIdeal.nD Cert.AffineIdeal.τ).loc Cert.AffineIdeal.main_arg4)) →
    ∃ (v0 : (c : Dev Cert.AffineIdeal.nD) → Buf (Elt Ideal) ((c.tc : Thread Cert.AffineIdeal.nD Cert.AffineIdeal.τ).loc Cert.AffineIdeal.main_v0)),
      θ_run (Cert.AffineIdeal.defs (F := Ideal)) (onTc (τ := Cert.AffineIdeal.τ) (Cert.AffineIdeal.main (F := Ideal))) ⟨m, fun _ => 0, g⟩ (fun r => ∀ c : Dev Cert.AffineIdeal.nD,
          r.2.mem ((c.tc : Thread Cert.AffineIdeal.nD Cert.AffineIdeal.τ).loc Cert.AffineIdeal.main_v0) = v0 c
          ∧ r.2.mem ((c.tc : Thread Cert.AffineIdeal.nD Cert.AffineIdeal.τ).loc Cert.AffineIdeal.main_arg0) = m ((c.tc : Thread Cert.AffineIdeal.nD Cert.AffineIdeal.τ).loc Cert.AffineIdeal.main_arg0)
          ∧ r.2.mem ((c.tc : Thread Cert.AffineIdeal.nD Cert.AffineIdeal.τ).loc Cert.AffineIdeal.main_arg1) = m ((c.tc : Thread Cert.AffineIdeal.nD Cert.AffineIdeal.τ).loc Cert.AffineIdeal.main_arg1)
          ∧ r.2.mem ((c.tc : Thread Cert.AffineIdeal.nD Cert.AffineIdeal.τ).loc Cert.AffineIdeal.main_arg2) = m ((c.tc : Thread Cert.AffineIdeal.nD Cert.AffineIdeal.τ).loc Cert.AffineIdeal.main_arg2)
          ∧ r.2.mem ((c.tc : Thread Cert.AffineIdeal.nD Cert.AffineIdeal.τ).loc Cert.AffineIdeal.main_arg3) = m ((c.tc : Thread Cert.AffineIdeal.nD Cert.AffineIdeal.τ).loc Cert.AffineIdeal.main_arg3)
          ∧ r.2.mem ((c.tc : Thread Cert.AffineIdeal.nD Cert.AffineIdeal.τ).loc Cert.AffineIdeal.main_arg4) = m ((c.tc : Thread Cert.AffineIdeal.nD Cert.AffineIdeal.τ).loc Cert.AffineIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hAffine : Cert.Affine.Facts) (hAffineIdeal : Cert.AffineIdeal.Facts) (hReferenceIdeal : Cert.ReferenceIdeal.Facts) (hPre_unit_affine : Cert.Pre_unit_affine.Facts),
    quiescent_Kernel (hKernel := hKernel)
    ∧ quiescent_KernelIdeal (hKernelIdeal := hKernelIdeal)
    ∧ quiescent_KernelIdeal_pre_unit_affine (hKernelIdeal := hKernelIdeal) (hPre_unit_affine := hPre_unit_affine)
    ∧ quiescent_Affine (hAffine := hAffine)
    ∧ quiescent_AffineIdeal (hAffineIdeal := hAffineIdeal)
    ∧ quiescent_ReferenceIdeal (hReferenceIdeal := hReferenceIdeal)
    ∧ quiescent_ReferenceIdeal_pre_unit_affine (hReferenceIdeal := hReferenceIdeal) (hPre_unit_affine := hPre_unit_affine)
    ∧ preserves_Kernel_KernelIdeal
    ∧ preserves_Affine_AffineIdeal
    ∧ algebraic_KernelIdeal_ReferenceIdeal_pre_unit_affine (hKernelIdeal := hKernelIdeal) (hReferenceIdeal := hReferenceIdeal) (hPre_unit_affine := hPre_unit_affine)
    ∧ algebraic_AffineIdeal_ReferenceIdeal (hAffineIdeal := hAffineIdeal) (hReferenceIdeal := hReferenceIdeal)
-- ==== Pre_unit_affine.lean ====
abbrev S65536x768 : Shape := ⟨2, ![65536, 768]⟩
abbrev S768 : Shape := ⟨1, ![768]⟩
abbrev S768x768 : Shape := ⟨2, ![768, 768]⟩
abbrev S_ : Shape := ⟨0, ![]⟩

class Facts : Prop where
  bcast_S_S768 : S_.BroadcastsInDim S768 (![] : Fin 0 → Fin S768.rank)

variable [Facts]

def fn {F : FTy → Type} [FloatOps F] (main_arg0 : FVec F S65536x768 .f32) (main_arg1 : FVec F S768 .f32) (main_arg2 : FVec F S768 .f32) (main_arg3 : FVec F S768x768 .f32) (main_arg4 : FVec F S768 .f32) : IVec S768 1 × IVec S768 1 × IVec S768 1 :=
  let main_cst : FVec F S_ .f32 := constant S_ .f32 0x3F800000#32
  let main_v0 : FVec F S768 .f32 := broadcastInDim S768 ![] bcast_S_S768 main_cst
  let main_v1 : IVec S768 1 := cmpf .oeq main_arg1 main_v0
  let main_cst_0 : FVec F S_ .f32 := constant S_ .f32 0x00000000#32
  let main_v2 : FVec F S768 .f32 := broadcastInDim S768 ![] bcast_S_S768 main_cst_0
  let main_v3 : IVec S768 1 := cmpf .oeq main_arg2 main_v2
  let main_cst_1 : FVec F S_ .f32 := constant S_ .f32 0x00000000#32
  let main_v4 : FVec F S768 .f32 := broadcastInDim S768 ![] bcast_S_S768 main_cst_1
  let main_v5 : IVec S768 1 := cmpf .oeq main_arg4 main_v4
  (main_v1, main_v3, main_v5)
-- ==== Kernel.lean ====
abbrev S65536x768 : Shape := ⟨2, ![65536, 768]⟩
abbrev S768 : Shape := ⟨1, ![768]⟩
abbrev S768x768 : Shape := ⟨2, ![768, 768]⟩
abbrev S2048x768 : Shape := ⟨2, ![2048, 768]⟩
abbrev S2048 : Shape := ⟨1, ![2048]⟩
abbrev S2048x1 : Shape := ⟨2, ![2048, 1]⟩

abbrev nBuf : Space → Nat
  | .hbm => 10
  | .vmem => 5
  | .smem => 0
  | _ => 0

abbrev bufTy : (tb : Table) → Fin (tcTables nBuf tb) → BufTy
  | .hbm, ⟨0, _⟩ => ⟨S65536x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .bf16⟩
  | .hbm, ⟨6, _⟩ => ⟨S768x768, .bf16⟩
  | .hbm, ⟨7, _⟩ => ⟨S768x768, .f32⟩
  | .hbm, ⟨8, _⟩ => ⟨S768x768, .fp8e4m3⟩
  | .hbm, ⟨9, _⟩ => ⟨S65536x768, .f32⟩
  | .local _ .vmem, ⟨0, _⟩ => ⟨S2048x768, .f32⟩
  | .local _ .vmem, ⟨1, _⟩ => ⟨S2048x768, .f32⟩
  | .local _ .vmem, ⟨2, _⟩ => ⟨S768x768, .fp8e4m3⟩
  | .local _ .vmem, ⟨3, _⟩ => ⟨S2048x768, .f32⟩
  | .local _ .vmem, ⟨4, _⟩ => ⟨S2048x768, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Affine.lean ====
abbrev S65536x768 : Shape := ⟨2, ![65536, 768]⟩
abbrev S768 : Shape := ⟨1, ![768]⟩
abbrev S768x768 : Shape := ⟨2, ![768, 768]⟩
abbrev S1x768 : Shape := ⟨2, ![1, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S65536x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .bf16⟩
  | .hbm, ⟨6, _⟩ => ⟨S1x768, .f32⟩
  | .hbm, ⟨7, _⟩ => ⟨S1x768, .f32⟩
  | .hbm, ⟨8, _⟩ => ⟨S1x768, .f32⟩
  | .hbm, ⟨9, _⟩ => ⟨S65536x768, .f32⟩
  | .local _ .vmem, ⟨0, _⟩ => ⟨S1024x768, .f32⟩
  | .local _ .vmem, ⟨1, _⟩ => ⟨S1024x768, .f32⟩
  | .local _ .vmem, ⟨2, _⟩ => ⟨S1x768, .f32⟩
  | .local _ .vmem, ⟨3, _⟩ => ⟨S1x768, .f32⟩
  | .local _ .vmem, ⟨4, _⟩ => ⟨S768x768, .bf16⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S65536x768 : Shape := ⟨2, ![65536, 768]⟩
abbrev S768 : Shape := ⟨1, ![768]⟩
abbrev S768x768 : Shape := ⟨2, ![768, 768]⟩
abbrev S_ : Shape := ⟨0, ![]⟩
abbrev S65536 : Shape := ⟨1, ![65536]⟩
abbrev S65536x1 : Shape := ⟨2, ![65536, 1]⟩
abbrev S1x768 : Shape := ⟨2, ![1, 768]⟩

abbrev nBuf : Space → Nat
  | .hbm => 36
  | .vmem => 4
  | .smem => 0
  | _ => 0

abbrev bufTy : (tb : Table) → Fin (tcTables nBuf tb) → BufTy
  | .hbm, ⟨0, _⟩ => ⟨S65536x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S65536x768, .f32⟩
  | .hbm, ⟨12, _⟩ => ⟨S65536x768, .f32⟩
  | .hbm, ⟨13, _⟩ => ⟨S65536x768, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x768, .f32⟩
  | .hbm, ⟨25, _⟩ => ⟨S65536x768, .f32⟩
  | .hbm, ⟨26, _⟩ => ⟨S65536x768, .f32⟩
  | .hbm, ⟨27, _⟩ => ⟨S65536x768, .f32⟩
  | .hbm, ⟨28, _⟩ => ⟨S1x768, .f32⟩
  | .hbm, ⟨29, _⟩ => ⟨S65536x768, .f32⟩
  | .hbm, ⟨30, _⟩ => ⟨S65536x768, .f32⟩
  | .hbm, ⟨31, _⟩ => ⟨S1x768, .f32⟩
  | .hbm, ⟨32, _⟩ => ⟨S65536x768, .f32⟩
  | .hbm, ⟨33, _⟩ => ⟨S65536x768, .f32⟩
  | .hbm, ⟨34, _⟩ => ⟨S1x768, .f32⟩
  | .hbm, ⟨35, _⟩ => ⟨S65536x768, .f32⟩
  | .local _ .vmem, ⟨0, _⟩ => ⟨S65536x768, .f32⟩
  | .local _ .vmem, ⟨1, _⟩ => ⟨S768x768, .f32⟩
  | .local _ .vmem, ⟨2, _⟩ => ⟨S1x768, .f32⟩
  | .local _ .vmem, ⟨3, _⟩ => ⟨S65536x768, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S65536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S65536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/- The mathematics of the problem, free of any program: one row's LayerNorm over the extended reals, and one entry of the
   product of the normalised rows with the weights, plus the bias. -/
module

public import Idealize.ShloMosaic.PureOps.Ideal

@[expose] public section

noncomputable section

namespace Cert.Spec

open Idealize.ShloMosaic

/-- The hidden size 768 as the programs write it: the real that its f32 word denotes. -/
def width : EReal := Ideal.ofBits .f32 0x44400000#32

/-- LayerNorm's epsilon 1e-5 as the programs write it: the real that its f32 word denotes. -/
def eps : EReal := Ideal.ofBits .f32 0x3727C5AC#32

/-- The mean of a row. -/
def mean (x : Fin 768 → EReal) : EReal := Ideal.div (∑ k, x k) width

/-- A row less its mean. -/
def centred (x : Fin 768 → EReal) (k : Fin 768) : EReal := x k - mean x

/-- The reciprocal root of a row's variance, epsilon added. -/
def rsigma (x : Fin 768 → EReal) : EReal := Ideal.rsqrt (mean (fun k => centred x k * centred x k) + eps)

/-- A row normalised: less its mean, times the reciprocal root of its variance. -/
def normed (x : Fin 768 → EReal) (k : Fin 768) : EReal := centred x k * rsigma x

/-- One entry of the product without affine parameters: a normalised row times a column of the weights. -/
def plain (x : Fin 768 → EReal) (w : Fin 768 → EReal) : EReal := ∑ k, normed x k * w k

/-- One entry of the layer: a normalised row, scaled by `g` and shifted by `b`, times a column of the weights, plus that
    column's bias. -/
def layer (x g b w : Fin 768 → EReal) (bias : EReal) : EReal := (∑ k, (normed x k * g k + b k) * w k) + bias

/-- Where every scale is one and every shift and the bias are zero, the layer's entry is the plain product. -/
theorem layer_unit (x g b w : Fin 768 → EReal) (bias : EReal) (hg : ∀ k, g k = 1) (hb : ∀ k, b k = 0) (hbias : bias = 0) :
    layer x g b w bias = plain x w := by
  unfold layer plain
  simp only [hg, hb, hbias, mul_one, add_zero]

/-- The layer's entry depends on its operands through their elements alone. -/
theorem layer_congr {x x' g g' b b' w w' : Fin 768 → EReal} {bias bias' : EReal} (hx : ∀ k, x k = x' k)
    (hg : ∀ k, g k = g' k) (hb : ∀ k, b k = b' k) (hw : ∀ k, w k = w' k) (hbias : bias = bias') :
    layer x g b w bias = layer x' g' b' w' bias' := by
  rw [funext hx, funext hg, funext hb, funext hw, hbias]

end Cert.Spec

end
-- ==== Proof.Plain.lean ====
/- The value of the fused kernel without affine parameters: its result array holds, row by row, the normalised rows times the
   weights. -/
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.Spec

variable (m : (ℓ : Loc nD τ sig) → Buf (Elt Ideal) ℓ) (ρ : Dev nD → PrngReg)

/-- Row `r` of the input, as device `c` holds it at launch. -/
abbrev row (c : Dev nD) (r : Fin 65536) (k : Fin 768) : EReal :=
  (m ((c : Thread nD τ).loc main_arg0) : FVec Ideal S65536x768 .f32) (ix2 r k)
/-- Column `j` of the weights, as device `c` holds them at launch. -/
abbrev col (c : Dev nD) (j k : Fin 768) : EReal :=
  (m ((c : Thread nD τ).loc main_arg3) : FVec Ideal S768x768 .f32) (ix2 k j)

/-- The whole result: at each index the plain product of its row and its column. -/
def whole (c : Dev nD) : FVec Ideal S65536x768 .f32 := fun i => plain (row m c (i 0)) (col m c (i 1))

/-- Which block each window stages at a grid point: the point's rows, the whole weights, the point's rows of the result. -/
theorem index_val : ∀ t : Fin cfg0.N, win0_0.index t = ![t.val, 0] ∧ win0_1.index t = ![0, 0] ∧ win0_2.index t = ![t.val, 0] :=
  (by decide +kernel : ∀ t : Fin grid0.N, _)

/-- What the body stores, at an index of the block: the plain product of that row of the staged block and that column of
    the staged weights. -/
theorem pay_apply (x : FVec Ideal S2048x768 .f32) (w : FVec Ideal S768x768 .fp8e4m3) (j : S2048x768.Idx) :
    k0_pay1 (F := Ideal) x w j = plain (fun k => x (ix2 (j 0) k)) (fun k => w (ix2 k (j 1))) := by
  pointwise [k0_pay1, plain, normed, centred, rsigma, mean, width, eps]

/-- What the body stores at a grid point, at an index of the block, is the whole result at that index's place. -/
theorem point (c : Dev nD) (t : Fin cfg0.N) (y : S2048x768.Idx) :
    k0_pay1 (F := Ideal) (iblk m c 0 t) (iblk m c 1 t) y = whole m c (((cfg0.win 2).blk t).view.emb y) := by
  refine (pay_apply _ _ y).trans ?_
  unfold whole
  congr 1
  · funext k
    blk_point [iblk, V, index_val t]
  · funext k
    blk_point [iblk, index_val t]

/-- After the run the result array is the whole result: the grid's blocks cover it. -/
theorem final (c : Dev nD) : (dats m 0 c).arrAt 2 cfg0.N = whole m c := by
  refine (dats m 0 c).arrAt_eq_of_covers 2 (whole m c) (by decide +kernel) fun t _ y => ?_
  blk_simp
  rw [after0_2]; frame_out
  exact point m c t y

/-- The run, read: the result array holds the plain products, and every argument is as launched. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks (F := Ideal) m ρ)

end Cert.KernelIdeal.Layer

end
-- ==== Proof.Affine.lean ====
/- The value of the fused kernel with affine parameters: its result array holds, row by row, the normalised rows, scaled and
   shifted, times the weights, plus the bias. -/
module

public import proofs.«01_k».proof.Proof.Gen.AffineIdeal.Value
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AffineIdeal.Layer

open Cert.AffineIdeal Cert.AffineIdeal.Gen Cert.Spec

variable (m : (ℓ : Loc nD τ sig) → Buf (Elt Ideal) ℓ) (ρ : Dev nD → PrngReg)

/-- Row `r` of the input, as device `c` holds it at launch. -/
abbrev row (c : Dev nD) (r : Fin 65536) (k : Fin 768) : EReal :=
  (m ((c : Thread nD τ).loc main_arg0) : FVec Ideal S65536x768 .f32) (ix2 r k)
/-- Column `j` of the weights, as device `c` holds them at launch. -/
abbrev col (c : Dev nD) (j k : Fin 768) : EReal :=
  (m ((c : Thread nD τ).loc main_arg3) : FVec Ideal S768x768 .f32) (ix2 k j)
/-- The scale, as device `c` holds it at launch. -/
abbrev scale (c : Dev nD) (k : Fin 768) : EReal := (m ((c : Thread nD τ).loc main_arg1) : FVec Ideal S768 .f32) (ix1 k)
/-- The shift, as device `c` holds it at launch. -/
abbrev shift (c : Dev nD) (k : Fin 768) : EReal := (m ((c : Thread nD τ).loc main_arg2) : FVec Ideal S768 .f32) (ix1 k)
/-- The bias, as device `c` holds it at launch. -/
abbrev bias (c : Dev nD) (j : Fin 768) : EReal := (m ((c : Thread nD τ).loc main_arg4) : FVec Ideal S768 .f32) (ix1 j)

/-- The whole result: at each index the layer's entry of its row and its column. -/
def whole (c : Dev nD) : FVec Ideal S65536x768 .f32 :=
  fun i => layer (row m c (i 0)) (scale m c) (shift m c) (col m c (i 1)) (bias m c (i 1))

/-- Which block each window stages at a grid point: the point's rows of the input and of the result, the whole of the rest. -/
theorem index_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- What the body stores, at an index of the block: the layer's entry of that row of the staged block and that column of
    the staged weights. -/
theorem pay_apply (x : FVec Ideal S1024x768 .f32) (g b : FVec Ideal S1x768 .f32) (w : FVec Ideal S768x768 .bf16)
    (d : FVec Ideal S1x768 .f32) (j : S1024x768.Idx) :
    k0_pay1 (F := Ideal) x g b w d j = layer (fun k => x (ix2 (j 0) k)) (fun k => g (ix2 0 k)) (fun k => b (ix2 0 k))
      (fun k => w (ix2 k (j 1))) (d (ix2 0 (j 1))) := by
  pointwise [k0_pay1, layer, normed, centred, rsigma, mean, width, eps]

/-- What the body stores at a grid point, at an index of the block, is the whole result at that index's place. -/
theorem point (c : Dev nD) (t : Fin cfg0.N) (y : S1024x768.Idx) :
    k0_pay1 (F := Ideal) (iblk m c 0 t) (iblk m c 1 t) (iblk m c 2 t) (iblk m c 3 t) (iblk m c 4 t) y
      = whole m c (((cfg0.win 5).blk t).view.emb y) := by
  refine (pay_apply _ _ _ _ _ y).trans ?_
  unfold whole
  congr 1
  · funext k
    blk_point [iblk, V, index_val t]
  · funext k
    blk_point [iblk, index_val t]
  · funext k
    blk_point [iblk, index_val t]
  · funext k
    blk_point [iblk, index_val t]
  · blk_point [iblk, index_val t]

/-- After the run the result array is the whole result: the grid's blocks cover it. -/
theorem final (c : Dev nD) : (dats m 0 c).arrAt 5 cfg0.N = whole m c := by
  refine (dats m 0 c).arrAt_eq_of_covers 5 (whole m c) (by decide +kernel) fun t _ y => ?_
  blk_simp
  rw [after0_5]; frame_out
  exact point m c t y

/-- The run, read: the result array holds the layer's entries, and every argument is as launched. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks (F := Ideal) m ρ)

end Cert.AffineIdeal.Layer

end
-- ==== Proof.Reference.lean ====
/- The value of the reference: its result array holds, row by row, the normalised rows, scaled and shifted, times the weights,
   plus the bias. -/
module

public import proofs.«01_k».proof.Proof.Gen.ReferenceIdeal.Value
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Layer

open Cert.ReferenceIdeal Cert.ReferenceIdeal.Gen Cert.Spec

variable (m : (ℓ : Loc nD τ sig) → Buf (Elt Ideal) ℓ) (ρ : Dev nD → PrngReg)

/-- Row `r` of the input, as device `c` holds it at launch. -/
abbrev row (c : Dev nD) (r : Fin 65536) (k : Fin 768) : EReal :=
  (m ((c : Thread nD τ).loc main_arg0) : FVec Ideal S65536x768 .f32) (ix2 r k)
/-- Column `j` of the weights, as device `c` holds them at launch. -/
abbrev col (c : Dev nD) (j k : Fin 768) : EReal :=
  (m ((c : Thread nD τ).loc main_arg3) : FVec Ideal S768x768 .f32) (ix2 k j)
/-- The scale, as device `c` holds it at launch. -/
abbrev scale (c : Dev nD) (k : Fin 768) : EReal := (m ((c : Thread nD τ).loc main_arg1) : FVec Ideal S768 .f32) (ix1 k)
/-- The shift, as device `c` holds it at launch. -/
abbrev shift (c : Dev nD) (k : Fin 768) : EReal := (m ((c : Thread nD τ).loc main_arg2) : FVec Ideal S768 .f32) (ix1 k)
/-- The bias, as device `c` holds it at launch. -/
abbrev bias (c : Dev nD) (j : Fin 768) : EReal := (m ((c : Thread nD τ).loc main_arg4) : FVec Ideal S768 .f32) (ix1 j)

/-- The whole result: at each index the layer's entry of its row and its column. -/
def whole (c : Dev nD) : FVec Ideal S65536x768 .f32 :=
  fun i => layer (row m c (i 0)) (scale m c) (shift m c) (col m c (i 1)) (bias m c (i 1))

/-- Which block each window stages at the one grid point: the whole of its array. -/
theorem index_val : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- What the product's body stores, at an index: that row of the left operand times that column of the weights, plus the bias. -/
theorem pay_apply (x : FVec Ideal S65536x768 .f32) (w : FVec Ideal S768x768 .f32) (d : FVec Ideal S1x768 .f32)
    (j : S65536x768.Idx) :
    k0_pay1 (F := Ideal) x w d j = (∑ k : Fin 768, x (ix2 (j 0) k) * w (ix2 k (j 1))) + d (ix2 0 (j 1)) := by
  pointwise [k0_pay1]

/-- The left operand as the host makes it: the normalised rows, scaled and shifted. -/
theorem lhs_apply (c : Dev nD) (r : Fin 65536) (k : Fin 768) :
    (V m c main_v23 : FVec Ideal S65536x768 .f32) (ix2 r k) = normed (row m c r) k * scale m c k + shift m c k := by
  entry_read
  pointwise [normed, centred, rsigma, mean, width, eps]

/-- The staged left operand is the whole array that the host made. -/
theorem lhs_block (c : Dev nD) (t : Fin cfg0.N) (x : S65536x768.Idx) :
    (iblk m c 0 t : FVec Ideal S65536x768 .f32) x = (V m c main_v23 : FVec Ideal S65536x768 .f32) x := by
  unfold iblk
  generalize V m c = v
  blk_point [index_val t]

/-- The staged weights are the whole weights. -/
theorem rhs_block (c : Dev nD) (t : Fin cfg0.N) (k j : Fin 768) :
    (iblk m c 1 t : FVec Ideal S768x768 .f32) (ix2 k j) = col m c j k := by
  unfold iblk col
  rw [← V_main_arg3 m c]
  generalize V m c = v
  blk_point [index_val t]

/-- The staged bias, one row, is the bias. -/
theorem bias_block (c : Dev nD) (t : Fin cfg0.N) (j : Fin 768) :
    (iblk m c 2 t : FVec Ideal S1x768 .f32) (ix2 0 j) = bias m c j := by
  blk_point [iblk, index_val t]

/-- The result's one block sits at the origin of its array. -/
theorem place (t : Fin cfg0.N) (y : S65536x768.Idx) : ((cfg0.win 3).blk t).view.emb y = y := by
  blk_ext [index_val t]

/-- What the body stores at the one grid point, at an index, is the whole result there. -/
theorem point (c : Dev nD) (t : Fin cfg0.N) (y : S65536x768.Idx) :
    k0_pay1 (F := Ideal) (iblk m c 0 t) (iblk m c 1 t) (iblk m c 2 t) y = whole m c (((cfg0.win 3).blk t).view.emb y) := by
  rw [place]
  refine (pay_apply _ _ _ y).trans (congrArg₂ (· + ·) (Finset.sum_congr rfl fun k _ => congrArg₂ (· * ·) ?_ ?_) ?_)
  · exact (lhs_block m c t _).trans (lhs_apply m c (y 0) k)
  · exact rhs_block m c t k (y 1)
  · exact bias_block m c t (y 1)

/-- After the run the result array is the whole result: the grid's blocks cover it. -/
theorem final (c : Dev nD) : (dats m 0 c).arrAt 3 cfg0.N = whole m c := by
  refine (dats m 0 c).arrAt_eq_of_covers 3 (whole m c) (by decide +kernel) fun t _ y => ?_
  blk_simp
  rw [after0_3]; frame_out
  exact point m c t y

/-- The run, read: the result array holds the layer's entries, and every argument is as launched. -/
theorem run : θ_run defs (onTc (τ := τ) (main (F := Ideal))) ⟨m, fun _ => 0, ρ⟩ fun r => ∀ c : Dev nD,
      r.2.mem ((c : Thread nD τ).loc main_v25) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks (F := Ideal) m ρ)

end Cert.ReferenceIdeal.Layer

end
-- ==== Proof.Pre.lean ====
/- What the precondition says: every scale is one, every shift and every bias is zero. -/
module

public import proofs.«01_k».proof.Proof.Gen.Pre_unit_affine
public import proofs.«01_k».proof.Proof.Spec
public import Idealize.ShloMosaic.Lib.Pointwise
public import Idealize.ShloMosaic.Lib.IdealHost

@[expose] public section

noncomputable section

open Idealize.ShloMosaic

namespace Cert.Pre_unit_affine.Read

open Cert.Pre_unit_affine Cert.Pre_unit_affine.Gen

/-- Where the compare of two reals for equality answers true, they are equal. -/
theorem eq_of_cmp {x y : EReal} (h : Ideal.cmp .oeq x y = 1#1) : x = y := by
  by_contra hne
  simp [Ideal.cmp, hne] at h

variable (x : FVec Ideal S65536x768 .f32) (g b : FVec Ideal S768 .f32) (w : FVec Ideal S768x768 .f32)
  (d : FVec Ideal S768 .f32)

/-- The first answer true at every index: the scale is one everywhere. -/
theorem scale_one (h : (fn (F := Ideal) x g b w d).1 = fun _ => 1#1) (k : Fin 768) : g (ix1 k) = 1 := by
  have hk := congrFun h (ix1 k)
  have := eq_of_cmp (x := g (ix1 k)) (y := Ideal.ofBits .f32 0x3F800000#32) hk
  simpa using this

/-- The second answer true at every index: the shift is zero everywhere. -/
theorem shift_zero (h : (fn (F := Ideal) x g b w d).2.1 = fun _ => 1#1) (k : Fin 768) : b (ix1 k) = 0 := by
  have hk := congrFun h (ix1 k)
  have := eq_of_cmp (x := b (ix1 k)) (y := Ideal.ofBits .f32 0x00000000#32) hk
  simpa [Ideal.ofBits, Ideal.ieee] using this

/-- The third answer true at every index: the bias is zero everywhere. -/
theorem bias_zero (h : (fn (F := Ideal) x g b w d).2.2 = fun _ => 1#1) (k : Fin 768) : d (ix1 k) = 0 := by
  have hk := congrFun h (ix1 k)
  have := eq_of_cmp (x := d (ix1 k)) (y := Ideal.ofBits .f32 0x00000000#32) hk
  simpa [Ideal.ofBits, Ideal.ieee] using this

end Cert.Pre_unit_affine.Read

end
-- ==== Proof.lean ====
/- The proof of the certificate's claims. Both kernels run at every input and end with their arguments kept; the kernel that
   keeps the affine parameters computes what the reference computes; the kernel that drops them does too wherever the
   scale is one and the shift and the bias are zero. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Affine
public import proofs.«01_k».proof.Proof.Gen.Affine.Skeleton
public import proofs.«01_k».proof.Proof.Gen.Affine.Launch
public import proofs.«01_k».proof.Proof.Gen.Affine.Points
public import proofs.«01_k».proof.Proof.Gen.Affine.Frame
public import proofs.«01_k».proof.Proof.Gen.AffineIdeal
public import proofs.«01_k».proof.Proof.Gen.AffineIdeal.Skeleton
public import proofs.«01_k».proof.Proof.Gen.AffineIdeal.Launch
public import proofs.«01_k».proof.Proof.Gen.AffineIdeal.Points
public import proofs.«01_k».proof.Proof.Gen.AffineIdeal.Frame
public import proofs.«01_k».proof.Proof.Gen.AffineIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_unit_affine
public import proofs.«01_k».proof.Proof.Spec
public import proofs.«01_k».proof.Proof.Plain
public import proofs.«01_k».proof.Proof.Affine
public import proofs.«01_k».proof.Proof.Reference
public import proofs.«01_k».proof.Proof.Pre
public import Idealize.ShloMosaic.Adequacy
public import Idealize.ShloMosaic.Init

@[expose] public section

noncomputable section

namespace Cert.Proof

open Idealize.ShloMosaic Idealize.SL.Sem

/-- From the same arguments, whatever they are, the reference's result is the result of the kernel that keeps the affine
    parameters. -/
theorem affine_reference : Cert.algebraic_AffineIdeal_ReferenceIdeal (hAffineIdeal := Cert.AffineIdeal.Gen.facts)
    (hReferenceIdeal := Cert.ReferenceIdeal.Gen.facts) := by
  intro m g m' g' _ hagree
  refine ⟨fun c => Cert.AffineIdeal.Layer.whole m c, Cert.AffineIdeal.Layer.run m g,
    (θ_run _ _ _).mono (fun _ h c => ⟨(h c).1.trans ?_, (h c).2⟩) (Cert.ReferenceIdeal.Layer.run m' g')⟩
  obtain ⟨h0, h1, h2, h3, h4⟩ := hagree c
  funext i
  exact Cert.Spec.layer_congr (fun k => congrFun h0 (ix2 (i 0) k)) (fun k => congrFun h1 (ix1 k))
    (fun k => congrFun h2 (ix1 k)) (fun k => congrFun h3 (ix2 k (i 1))) (congrFun h4 (ix1 (i 1)))

/-- From the same arguments, the reference's result is the result of the kernel that drops the affine parameters, wherever
    the scale is one and the shift and the bias are zero. -/
theorem plain_reference : Cert.algebraic_KernelIdeal_ReferenceIdeal_pre_unit_affine
    (hKernelIdeal := Cert.KernelIdeal.Gen.facts) (hReferenceIdeal := Cert.ReferenceIdeal.Gen.facts)
    (hPre_unit_affine := Cert.Pre_unit_affine.Gen.facts) := by
  intro m g m' g' hpre hagree
  refine ⟨fun c => Cert.KernelIdeal.Layer.whole m c, Cert.KernelIdeal.Layer.run m g,
    (θ_run _ _ _).mono (fun _ h c => ⟨(h c).1.trans ?_, (h c).2⟩) (Cert.ReferenceIdeal.Layer.run m' g')⟩
  obtain ⟨h0, h1, h2, h3, h4⟩ := hagree c
  obtain ⟨p1, p2, p3⟩ := hpre c
  funext i
  refine (Cert.Spec.layer_congr (fun k => congrFun h0 (ix2 (i 0) k)) (fun k => congrFun h1 (ix1 k))
    (fun k => congrFun h2 (ix1 k)) (fun k => congrFun h3 (ix2 k (i 1))) (congrFun h4 (ix1 (i 1)))).trans ?_
  exact Cert.Spec.layer_unit _ _ _ _ _ (Cert.Pre_unit_affine.Read.scale_one _ _ _ _ _ p1)
    (Cert.Pre_unit_affine.Read.shift_zero _ _ _ _ _ p2) (Cert.Pre_unit_affine.Read.bias_zero _ _ _ _ _ p3 (i 1))

/-- Every claim of the certificate. -/
theorem claim : Cert.Claim := ⟨Cert.Kernel.Gen.facts, Cert.KernelIdeal.Gen.facts, Cert.Affine.Gen.facts, Cert.AffineIdeal.Gen.facts, Cert.ReferenceIdeal.Gen.facts, Cert.Pre_unit_affine.Gen.facts,
  fun m ρ _ => Cert.Kernel.Gen.frame m ρ, fun m ρ _ => Cert.KernelIdeal.Gen.frame m ρ,
  fun m ρ _ => Cert.KernelIdeal.Gen.frame m ρ, fun m ρ _ => Cert.Affine.Gen.frame m ρ,
  fun m ρ _ => Cert.AffineIdeal.Gen.frame m ρ, fun m ρ _ => Cert.ReferenceIdeal.Gen.frame m ρ,
  fun m ρ _ => Cert.ReferenceIdeal.Gen.frame m ρ, trivial, trivial, plain_reference, affine_reference⟩

end Cert.Proof

end
